-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linspace_breaks [hPre_linspace_breaks : Cert.Pre_linspace_breaks.Facts] (m : (ℓ : Loc Cert.KernelIdeal.nD Cert.KernelIdeal.τ Cert.KernelIdeal.sig) → Buf (Elt Ideal) ℓ) : Prop :=
  ∀ c : Dev Cert.KernelIdeal.nD,
    (Cert.Pre_linspace_breaks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linspace_breaks [hPre_linspace_breaks : Cert.Pre_linspace_breaks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linspace_breaks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_linspace_breaks [hKernelIdeal : Cert.KernelIdeal.Facts] [hPre_linspace_breaks : Cert.Pre_linspace_breaks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linspace_breaks m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_linspace_breaks [hReferenceIdeal : Cert.ReferenceIdeal.Facts] [hPre_linspace_breaks : Cert.Pre_linspace_breaks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linspace_breaks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3C842108#32 ((62⁻¹ : ℝ) : EReal)

def algebraic_KernelIdeal_ReferenceIdeal_pre_linspace_breaks [hKernelIdeal : Cert.KernelIdeal.Facts] [hReferenceIdeal : Cert.ReferenceIdeal.Facts] [hPre_linspace_breaks : Cert.Pre_linspace_breaks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linspace_breaks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_linspace_breaks : Cert.Pre_linspace_breaks.Facts),
    quiescent_Kernel (hKernel := hKernel)
    ∧ quiescent_KernelIdeal (hKernelIdeal := hKernelIdeal)
    ∧ quiescent_KernelIdeal_pre_linspace_breaks (hKernelIdeal := hKernelIdeal) (hPre_linspace_breaks := hPre_linspace_breaks)
    ∧ quiescent_ReferenceIdeal (hReferenceIdeal := hReferenceIdeal)
    ∧ quiescent_ReferenceIdeal_pre_linspace_breaks (hReferenceIdeal := hReferenceIdeal) (hPre_linspace_breaks := hPre_linspace_breaks)
    ∧ preserves_Kernel_KernelIdeal
    ∧ algebraic_KernelIdeal_ReferenceIdeal_pre_linspace_breaks (hKernelIdeal := hKernelIdeal) (hReferenceIdeal := hReferenceIdeal) (hPre_linspace_breaks := hPre_linspace_breaks)
-- ==== Pre_linspace_breaks.lean ====
abbrev S2048x2048 : Shape := ⟨2, ![2048, 2048]⟩
abbrev S63 : Shape := ⟨1, ![63]⟩
abbrev S_ : Shape := ⟨0, ![]⟩
abbrev S62 : Shape := ⟨1, ![62]⟩
abbrev S1 : Shape := ⟨1, ![1]⟩

class Facts : Prop where
  bcast_S_S62 : S_.BroadcastsInDim S62 (![] : Fin 0 → Fin S62.rank)
  shapeCasts_S_S1 : S_.ShapeCasts S1
  bcast_S1_S62_0 : S1.BroadcastsInDim S62 (![0] : Fin 1 → Fin S62.rank)
  bcast_S_S1 : S_.BroadcastsInDim S1 (![] : Fin 0 → Fin S1.rank)
  concatenates_S62_S1_S63_d0 : Shape.Concatenates [S62, S1] S63 0
  reducesTo_S63_S_d0 : S63.ReducesTo [0] S_
  h_S_ : 0 < S_.numel

variable [Facts]

def fn_linspace {F : FTy → Type} [FloatOps F] (arg0 : FVec F S_ .f32) (arg1 : FVec F S_ .f32) : FVec F S63 .f32 :=
  let v0 : FVec F S_ .f32 := id arg0
  let v1 : FVec F S_ .f32 := id arg1
  let v2 : FVec F S_ .f32 := subf v1 v0
  let cst : FVec F S_ .f32 := constant S_ .f32 0x42780000#32
  let v3 : FVec F S_ .f32 := Host.divf v2 cst
  let v4 : FVec F S62 .f32 := sitofp .f32 (iotaInDim S62 32 0)
  let cst_0 : FVec F S_ .f32 := constant S_ .f32 0x42780000#32
  let v5 : FVec F S62 .f32 := broadcastInDim S62 ![] bcast_S_S62 cst_0
  let v6 : FVec F S62 .f32 := Host.divf v4 v5
  let v7 : FVec F S1 .f32 := shapeCast S1 v0 shapeCasts_S_S1
  let cst_1 : FVec F S_ .f32 := constant S_ .f32 0x3F800000#32
  let v8 : FVec F S62 .f32 := broadcastInDim S62 ![] bcast_S_S62 cst_1
  let v9 : FVec F S62 .f32 := subf v8 v6
  let v10 : FVec F S62 .f32 := broadcastInDim S62 ![0] bcast_S1_S62_0 v7
  let v11 : FVec F S62 .f32 := mulf v10 v9
  let v12 : FVec F S1 .f32 := shapeCast S1 v1 shapeCasts_S_S1
  let v13 : FVec F S62 .f32 := broadcastInDim S62 ![0] bcast_S1_S62_0 v12
  let v14 : FVec F S62 .f32 := mulf v13 v6
  let v15 : FVec F S62 .f32 := addf v11 v14
  let v16 : FVec F S1 .f32 := broadcastInDim S1 ![] bcast_S_S1 v1
  let v17 : FVec F S63 .f32 := (fun a b => concatenate S63 0 [⟨S62, a⟩, ⟨S1, b⟩] concatenates_S62_S1_S63_d0) v15 v16
  v17

def fn {F : FTy → Type} [FloatOps F] (main_arg0 : FVec F S2048x2048 .f32) (main_arg1 : FVec F S63 .f32) : IVec S_ 1 :=
  let main_cst : FVec F S_ .f32 := constant S_ .f32 0x00000000#32
  let main_cst_0 : FVec F S_ .f32 := constant S_ .f32 0x3F800000#32
  let main_v0 : FVec F S63 .f32 := fn_linspace (F := F) main_cst main_cst_0
  let main_v1 : IVec S63 1 := cmpf .oeq main_arg1 main_v0
  let main_c : IVec S_ 1 := constantI S_ 1 1#1
  let main_v2 : IVec S_ 1 := (fun x v => Host.reduce IntOp.andi x v reducesTo_S63_S_d0 h_S_) main_v1 main_c
  main_v2
-- ==== Kernel.lean ====
abbrev S2048x2048 : Shape := ⟨2, ![2048, 2048]⟩
abbrev S63 : Shape := ⟨1, ![63]⟩
abbrev S4194304 : Shape := ⟨1, ![4194304]⟩
abbrev S16384 : Shape := ⟨1, ![16384]⟩
abbrev S_ : Shape := ⟨0, ![]⟩
abbrev S16 : Shape := ⟨1, ![16]⟩

abbrev nBuf : Table → Nat
  | .hbm => 5
  | .local .scVector .vmem => 2
  | _ => 0

abbrev bufTy : (tb : Table) → Fin (nBuf tb) → BufTy
  | .hbm, ⟨0, _⟩ => ⟨S2048x2048, .f32⟩
  | .hbm, ⟨1, _⟩ => ⟨S63, .f32⟩
  | .hbm, ⟨2, _⟩ => ⟨S4194304, .f32⟩
  | .hbm, ⟨3, _⟩ => ⟨S4194304, .i32⟩
  | .hbm, ⟨4, _⟩ => ⟨S2048x2048, .i32⟩
  | .local .scVector .vmem, ⟨0, _⟩ => ⟨S16384, .f32⟩
  | .local .scVector .vmem, ⟨1, _⟩ => ⟨S16384, .i32⟩
  | _, _ => ⟨S2048x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c131072_i32 : BitVec 32 := 131072#32
  let v2 : BitVec 32 := Scalar.muli v1 c131072_i32
  let c0_i32_0 : BitVec 32 := 0#32
  let c1_i32 : BitVec 32 := 1#32
  let arg8 : BitVec 32 := Scf.iv c0_i32_0 c1_i32 k0_t1
  let c16384_i32 : BitVec 32 := 16384#32
  let v4 : BitVec 32 := Scalar.muli arg8 c16384_i32
  let v5 : BitVec 32 := Scalar.addi v2 v4
  ![v5.toNat]
@[reducible] def k0_t2_loop : Scf.Loop 32 :=
  let c0_i32_3 : BitVec 32 := 0#32
  let c1024_i32 : BitVec 32 := 1024#32
  let v10 : BitVec 32 := Scalar.addi c0_i32_3 c1024_i32
  let c1_i32_4 : BitVec 32 := 1#32
  ⟨c0_i32_3, v10, c1_i32_4⟩
def k0_off2 (k0_t2 : Fin k0_t2_loop.trips) : Fin 1 → Nat :=
  let c0_i32_3 : BitVec 32 := 0#32
  let c1_i32_4 : BitVec 32 := 1#32
  let arg9 : BitVec 32 := Scf.iv c0_i32_3 c1_i32_4 k0_t2
  let c16_i32 : BitVec 32 := 16#32
  let v11 : BitVec 32 := Scalar.muli arg9 c16_i32
  let v12 : Index := Scalar.indexCast v11
  ![v12.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((62⁻¹ : ℝ) : EReal)
  | _ => none
-- ==== ReferenceIdeal.lean ====
abbrev S2048x2048 : Shape := ⟨2, ![2048, 2048]⟩
abbrev S63 : Shape := ⟨1, ![63]⟩
abbrev S2048x2048x1 : Shape := ⟨3, ![2048, 2048, 1]⟩
abbrev S1x1x63 : Shape := ⟨3, ![1, 1, 63]⟩
abbrev S2048x2048x63 : Shape := ⟨3, ![2048, 2048, 63]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S63, .f32⟩
  | .hbm, ⟨2, _⟩ => ⟨S2048x2048x1, .f32⟩
  | .hbm, ⟨3, _⟩ => ⟨S1x1x63, .f32⟩
  | .hbm, ⟨4, _⟩ => ⟨S2048x2048x63, .f32⟩
  | .hbm, ⟨5, _⟩ => ⟨S2048x2048x63, .f32⟩
  | .hbm, ⟨6, _⟩ => ⟨S2048x2048x63, .i1⟩
  | .hbm, ⟨7, _⟩ => ⟨S2048x2048x63, .i32⟩
  | .hbm, ⟨8, _⟩ => ⟨S_, .i32⟩
  | .hbm, ⟨9, _⟩ => ⟨S2048x2048, .i32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.TileIdeal.lean ====
/-
  One vector subcore's part of the histogram count, run and valued.

  A subcore owns eight consecutive chunks of 16384 elements of the flattened distances, and the same eight chunks
  of the result. Per chunk it copies the distances into its own memory, replaces each by its count sixteen at a
  time, and copies the counts out. The theorem `tile_body` says that from the eight chunks of the distances and
  the eight chunks of the result at any contents, the subcore's program ends with the distances unchanged and every
  element of its result chunks equal to `bin` of the distance at the same position; that its scratch memory is
  given back; and that its two semaphores read zero again. Everything here is for an arbitrary reading of floats.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

local notation "𝕄" => MT nD τ sig (HIx 1) (Elt F) ℕ UU ℕ

/-! ## The arrays -/

variable (m : (ℓ : Loc nD τ sig) → Buf (Elt F) ℓ) (ρ : Dev nD → PrngReg)

/-- Device `d`'s distances as given, the breaks, the flattened distances, the flat result, the result. -/
abbrev dLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

local notation "xV" => (Memref.whole Cert.KernelIdeal.main_v0_scv : Memref Cert.KernelIdeal.sig Kind.scVector Space.hbm Cert.KernelIdeal.S4194304 EltTy.f32)
local notation "bV" => (Memref.whole Cert.KernelIdeal.main_arg1_scv : Memref Cert.KernelIdeal.sig Kind.scVector Space.hbm Cert.KernelIdeal.S63 EltTy.f32)
local notation "oV" => (Memref.whole Cert.KernelIdeal.main_v1_scv : Memref Cert.KernelIdeal.sig Kind.scVector Space.hbm Cert.KernelIdeal.S4194304 EltTy.i32)
local notation "gV" => (Memref.whole Cert.KernelIdeal.cc0_scratch0 : Memref Cert.KernelIdeal.sig Kind.scVector Space.vmem Cert.KernelIdeal.S16384 EltTy.f32)
local notation "nV" => (Memref.whole Cert.KernelIdeal.cc0_scratch1 : Memref Cert.KernelIdeal.sig Kind.scVector Space.vmem Cert.KernelIdeal.S16384 EltTy.i32)

/-! ## What one element becomes -/

section Value

variable [FloatOps F] [Named F]

/-- The bin estimate of a distance: 62 times it, cut to an integer, kept between 0 and 61. -/
def est (x : F .f32) : BitVec 32 :=
  IntOp.minsi (IntOp.maxsi (FloatOps.fptosi 32 (FloatOps.mulf x (Scalar.ofBits .f32 0x42780000#32))) 0#32) 61#32

/-- The lower edge of bin `j`: `j` times the step. -/
def edge (j : BitVec 32) : F .f32 := FloatOps.mulf (FloatOps.sitofp .f32 j) (Named.named κ "step" 0x3C842108#32)

/-- The count of one distance: its bin estimate, plus one for each of the estimate's two edges that it exceeds. -/
def bin (x : F .f32) : BitVec 32 :=
  IntOp.addi (IntOp.addi (est x) (Scalar.select (FloatOps.cmpf .ogt x (edge (est x))) 1#32 0#32))
    (Scalar.select (FloatOps.cmpf .ogt x (edge (IntOp.addi (est x) 1#32))) 1#32 0#32)

/-- The kernel's arithmetic on sixteen distances is `bin` on each. -/
theorem pay_eq (v : Vec F S16 .f32) (y : S16.Idx) : k0_pay1 (F := F) v y = bin (v y) := by
  unfold k0_pay1
  rw [shapeCast_self, shapeCast_self]
  rfl

/-- The flattened distances. -/
def flat (d : Dev nD) : Buf (Elt F) (xLoc d) := fun i => shapeCast S4194304 (m (dLoc d)) shapeCasts_S2048x2048_S4194304 i

/-- The flat result: `bin` of each flattened distance. -/
def counts (d : Dev nD) : Buf (Elt F) (oLoc d) := fun i => bin (F := F) (flat m d i)

end Value

/-! ## Chunks -/

/-- Chunk `k` of the subcore at `L`, as the kernel's slices spell it. -/
abbrev chunkR (L : grid0.Coords) (k : Fin k0_t1_loop.trips) : Rect S4194304 :=
  Rect.unit (s := S4194304) (k0_off1 L k) S16384.size (k0_off1_inb L k)
abbrev xChunk (L : grid0.Coords) (k : Fin k0_t1_loop.trips) : Memref sig .scVector .hbm S16384 .f32 := (xV).slice (chunkR L k) (fun _ => rfl)
abbrev oChunk (L : grid0.Coords) (k : Fin k0_t1_loop.trips) : Memref sig .scVector .hbm S16384 .i32 := (oV).slice (chunkR L k) (fun _ => rfl)

/-- The elements of a chunk of the distances are those of its range. -/
theorem xChunk_set (L : grid0.Coords) (k : Fin k0_t1_loop.trips) : (xChunk L k).view.set = (chunkR L k).set := by
  show ((View.whole (main_v0_scv : Ref sig .scVector)).slice (chunkR L k)).set = _
  rw [View.set_slice]; exact Finset.map_refl
/-- The elements of a chunk of the result are those of its range. -/
theorem oChunk_set (L : grid0.Coords) (k : Fin k0_t1_loop.trips) : (oChunk L k).view.set = (chunkR L k).set := by
  show ((View.whole (main_v1_scv : Ref sig .scVector)).slice (chunkR L k)).set = _
  rw [View.set_slice]; exact Finset.map_refl

/-- The chunk of the flattened distances at contents `f`, the chunk of the result at contents `f`. -/
abbrev xPts (d : Dev nD) (L : grid0.Coords) (k : Fin k0_t1_loop.trips) (f : Buf (Elt F) (xLoc d)) : sProp 𝕄 :=
  xLoc d ↦[(chunkR L k).set]{fullShare} f
/-- Owning one chunk of the result, at contents `f`. -/
abbrev oPts (d : Dev nD) (L : grid0.Coords) (k : Fin k0_t1_loop.trips) (f : Buf (Elt F) (oLoc d)) : sProp 𝕄 :=
  oLoc d ↦[(chunkR L k).set]{fullShare} f

/-! ## The subcore -/

section Subcore

variable (d : Dev nD) (L : grid0.Coords)

abbrev cV (L : grid0.Coords) : Fin τ.nSC := (L 0).castLE hcore0
abbrev jV (L : grid0.Coords) : Fin τ.nSub := (L 1).castLE hsub0
abbrev thr : Thread nD τ := V d (cV L) (jV L)

/-- Owning a chunk of the distances through its slice is owning it as a set of elements. -/
theorem pts_x (k : Fin k0_t1_loop.trips) (f : Buf (Elt F) (xLoc d)) :
    ((xChunk L k).view.loc (V d (cV L) (jV L)) ↦[(xChunk L k).view.set]{fullShare} f : sProp 𝕄) = xPts d L k f := by
  rw [xChunk_set]
/-- Owning a chunk of the result through its slice is owning it as a set of elements. -/
theorem pts_o (k : Fin k0_t1_loop.trips) (f : Buf (Elt F) (oLoc d)) :
    ((oChunk L k).view.loc (V d (cV L) (jV L)) ↦[(oChunk L k).view.set]{fullShare} f : sProp 𝕄) = oPts d L k f := by
  rw [oChunk_set]

/-- The semaphore of the copies in, the semaphore of the copies out. -/
abbrev inCell : GSem nD τ sig := (V d (cV L) (jV L), .dma cc0_scratch2.sem)
/-- The semaphore of the copy out. -/
abbrev outCell : GSem nD τ sig := (V d (cV L) (jV L), .dma cc0_scoped0.sem)

/-- The subcore's own semaphores are those two and the rest. -/
theorem ownSems0_V :
    (ownSems0 (V d (cV L) (jV L)) : sProp 𝕄)
      = iprop(semVal (inCell d L) 0 ∗ semVal (outCell d L) 0
          ∗ bigSep (((ownCells (V d (cV L) (jV L))).erase (inCell d L)).erase (outCell d L)) fun g => semVal g 0) := by
  unfold SparseCore.Cfg.ownSems0
  rw [SparseCore.bigSep_erase' ((mem_ownCells (g := inCell d L)).mpr ⟨rfl, by
      show (SemLoc.dma cc0_scratch2.sem : SemLoc sig).isScoped .scVector = true; decide⟩),
    SparseCore.bigSep_erase' (Finset.mem_erase.mpr ⟨by simp [inCell, outCell]; decide, (mem_ownCells (g := outCell d L)).mpr ⟨rfl, by
      show (SemLoc.dma cc0_scoped0.sem : SemLoc sig).isScoped .scVector = true; decide⟩⟩)]

/-- The subcore's own buffers are its two scratch buffers and the rest. -/
theorem ownBufs_V :
    (ownBufs (V d (cV L) (jV L)) : sProp 𝕄)
      = iprop((∃ f, (gV).view.loc (V d (cV L) (jV L)) ↦{fullShare} f) ∗ (∃ f, (nV).view.loc (V d (cV L) (jV L)) ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F] [Named F]

/-- After `k` groups of sixteen: the distances `g` in the first scratch, and the second holding the count of each of
    the first `16 k` of them. -/
def invGroups (g : S16384.Idx → F .f32) (k : Nat) (_ : PUnit) : sProp 𝕄 :=
  iprop(((gV).view.loc (V d (cV L) (jV L)) ↦{fullShare} g)
    ∗ ∃ f : S16384.Idx → BitVec 32, ⌜∀ x : S16384.Idx, (x 0).val < 16 * k → f x = bin (F := F) (g x)⌝
        ∗ (nV).view.loc (V d (cV L) (jV L)) ↦{fullShare} f)

/-- After `k` chunks: the distances as they were, the result chunks below `k` at the counts and the others untouched. -/
def invChunks (o₀ : Buf (Elt F) (oLoc d)) (O : CellTallies nD τ sig (HIx 1)) (W : Waits sig (HIx 1)) (k : Nat) (_ : PUnit) : sProp 𝕄 :=
  iprop(Transfers.MayWaits (V d (cV L) (jV L)) (default : HIx 1) O
    ∗ (bigSep Finset.univ fun j => xPts d L j (flat m d))
    ∗ (bigSep Finset.univ fun j => oPts d L j (if j.val < k then counts m d else o₀))
    ∗ (∃ f, (gV).view.loc (V d (cV L) (jV L)) ↦{fullShare} f)
    ∗ (∃ f, (nV).view.loc (V d (cV L) (jV L)) ↦{fullShare} f)
    ∗ semVal (inCell d L) 0 ∗ semVal (outCell d L) 0
    ∗ ∃ W', ⌜∀ p ∈ W', p ∈ W ∨ p.2 = none⌝ ∗ owes (V d (cV L) (jV L)) O W')

omit [FloatOps F] [Named F] in
/-- A store of sixteen words at group `k` of the second scratch: inside the group the stored words, -/
theorem group_hit (k : Fin k0_t2_loop.trips) (f : S16384.Idx → BitVec 32) (w : S16.Idx → BitVec 32) (y : S16.Idx) :
    (nV).view.writes (Elt F) f [⟨Rect.unit (s := S16384) (k0_off2 k) S16.size (k0_off2_inb k), w⟩]
      ((Rect.unit (s := S16384) (k0_off2 k) S16.size (k0_off2_inb k)).emb y) = w y := by
  have h := View.read_writes_cons_emb (nV).view (Val := Elt F) f (Rect.unit (s := S16384) (k0_off2 k) S16.size (k0_off2_inb k)) w [] y
  simpa only [Memref.view_whole, View.read_whole] using h
omit [FloatOps F] [Named F] in
/-- and outside it what was there. -/
theorem group_miss (k : Fin k0_t2_loop.trips) (f : S16384.Idx → BitVec 32) (w : S16.Idx → BitVec 32) (x : S16384.Idx)
    (hx : x ∉ (Rect.unit (s := S16384) (k0_off2 k) S16.size (k0_off2_inb k)).set) :
    (nV).view.writes (Elt F) f [⟨Rect.unit (s := S16384) (k0_off2 k) S16.size (k0_off2_inb k), w⟩] x = f x := by
  have h := View.read_writes_cons_miss (nV).view (Val := Elt F) f ⟨Rect.unit (s := S16384) (k0_off2 k) S16.size (k0_off2_inb k), w⟩ [] x hx
  simpa only [Memref.view_whole, View.read_whole, View.writes_nil] using h

/-- What the loads of a group see. -/
theorem group_load (k : Fin k0_t2_loop.trips) (g : S16384.Idx → F .f32) (y : S16.Idx) :
    View.readAt (Elt F) (gV).view (Rect.unit (s := S16384) (k0_off2 k) S16.size (k0_off2_inb k)).toLoadRect g y
      = g ((Rect.unit (s := S16384) (k0_off2 k) S16.size (k0_off2_inb k)).emb y) := rfl

/-- The counts known after a group's store. -/
theorem group_value (g : S16384.Idx → F .f32) (k : Fin k0_t2_loop.trips) (f : S16384.Idx → BitVec 32)
    (hf : ∀ x : S16384.Idx, (x 0).val < 16 * k.val → f x = bin (F := F) (g x)) (x : S16384.Idx) (hx : (x 0).val < 16 * (k.val + 1)) :
    (nV).view.writes (Elt F) f [⟨Rect.unit (s := S16384) (k0_off2 k) S16.size (k0_off2_inb k),
      k0_pay1 (F := F) (View.readAt (Elt F) (gV).view (Rect.unit (s := S16384) (k0_off2 k) S16.size (k0_off2_inb k)).toLoadRect g)⟩] x
      = bin (F := F) (g x) := by
  by_cases h : x ∈ (Rect.unit (s := S16384) (k0_off2 k) S16.size (k0_off2_inb k)).set
  · obtain ⟨y, rfl⟩ := LoadRect.exists_idx_of_mem _ h
    refine (group_hit (F := F) k f _ y).trans ?_
    rw [pay_eq]; rfl
  · rw [group_miss _ _ _ _ h]
    refine hf x ?_
    by_contra hlt
    refine h (Rect.mem_set_unit.mpr fun a => ?_)
    rw [k0_off2_eq]
    match a with
    | 0 => exact ⟨by simpa using hlt, by
        show (x 0).val < 16 * k.val + 16
        omega⟩

/-- The chunk of the result after the copy out holds the counts. -/
theorem chunk_value (k : Fin k0_t1_loop.trips) (o₁ : Buf (Elt F) (oLoc d)) (w : S16384.Idx → BitVec 32)
    (hw : ∀ y : S16384.Idx, w y = bin (F := F) ((xChunk L k).view.read (Elt F) (flat m d) y)) :
    ∀ i ∈ (oChunk L k).view.set, (oChunk L k).view.writes (Elt F) o₁ [⟨Rect.whole S16384, w⟩] i = counts m d i := by
  intro i hi
  obtain ⟨y, -, rfl⟩ := Finset.mem_map.mp hi
  have h := View.read_writes_cons_emb (oChunk L k).view (Val := Elt F) o₁ (Rect.whole S16384) w [] y
  have hy : (Rect.whole S16384).emb y = y := Rect.emb_whole_apply S16384 y
  have h' := (congrArg (View.read (Elt F) (oChunk L k).view ((oChunk L k).view.writes (Elt F) o₁ [⟨Rect.whole S16384, w⟩])) hy).symm.trans h
  rw [View.read_apply, cast_eq] at h'
  have hx := hw y
  rw [View.read_apply, cast_eq] at hx
  exact h'.trans hx

/-- One group of sixteen: the counts known grow by sixteen. -/
theorem group_step (g : S16384.Idx → F .f32) (k : Fin k0_t2_loop.trips) :
    invGroups d L g k.val ⟨⟩
      ⊢ wp frame (wpE (defs₀ (F := F)) 𝒱₀ (V d (cV L) (jV L)) none) Set.univ
          (k0_t2_body (F := F) L xV (Memref.isWhole_whole _) bV (Memref.isWhole_whole _) oV (Memref.isWhole_whole _)
            gV (Memref.isWhole_whole _) nV (Memref.isWhole_whole _) cc0_scratch2 cc0_scoped0 k ⟨⟩)
          fun _ => invGroups d L g (k.val + 1) ⟨⟩ := by
  unfold k0_t2_body invGroups
  iintro ⟨Hg, %f, %hf, Hn⟩
  sl_exec
  sl_step
  isplitl [Hg]; · iexact Hg
  iexists _; isplitr
  swap; · iexact Hn
  ipureintro; exact group_value g k f hf

set_option maxHeartbeats 4000000 in
/-- One chunk: copied in, counted, copied out. -/
theorem chunk_step (o₀ : Buf (Elt F) (oLoc d)) (O : CellTallies nD τ sig (HIx 1)) (W : Waits sig (HIx 1)) (k : Fin k0_t1_loop.trips) :
    invChunks m d L o₀ O W k.val ⟨⟩
      ⊢ wp frame (wpE (defs₀ (F := F)) 𝒱₀ (V d (cV L) (jV L)) none) Set.univ
          (k0_t1_body (F := F) L xV (Memref.isWhole_whole _) bV (Memref.isWhole_whole _) oV (Memref.isWhole_whole _)
            gV (Memref.isWhole_whole _) nV (Memref.isWhole_whole _) cc0_scratch2 cc0_scoped0 k ⟨⟩)
          fun _ => invChunks m d L o₀ O W (k.val + 1) ⟨⟩ := by
  unfold k0_t1_body invChunks
  iintro ⟨Hmw, Hxs, Hos, ⟨%fg, Hg⟩, ⟨%fn, Hn⟩, HsI, HsO, %W', %hW', HO⟩
  ihave Hx2 := (bigSep_univ_update (Φ := fun j => xPts (F := F) d L j (flat m d)) (Ψ := fun j => xPts (F := F) d L j (flat m d)) k fun _ _ => rfl) $$ Hxs
  icases Hx2 with ⟨Hx, Hxback⟩
  ihave Ho2 := (bigSep_univ_update (Φ := fun j => oPts (F := F) d L j (if j.val < k.val then counts m d else o₀))
    (Ψ := fun j => oPts (F := F) d L j (if j.val < k.val + 1 then counts m d else o₀)) k fun j hj => by
      have : j.val ≠ k.val := fun e => hj (Fin.ext e)
      have e : (j.val < k.val + 1) = (j.val < k.val) := propext (by omega)
      simp only [e]) $$ Hos
  icases Ho2 with ⟨Ho, Hoback⟩
  ihave Hx' := (Entails.of_eq (pts_x (F := F) d L k _).symm) $$ Hx
  ihave Ho' := (Entails.of_eq (pts_o (F := F) d L k _).symm) $$ Ho
  sl_exec (disch := exact View.amount_pos _ _ (show 0 < S16384.numel by decide))
  sl_for (invGroups d L (View.write (Elt F) (gV).view fg (chunk_step.sl.dma0 m d L k) Finset.univ)) $$ [Hg Hn]
  case region =>
    intro k' _
    exact group_step d L _ k'
  · unfold invGroups
    isplitl [Hg]; · iexact Hg
    iexists fn; isplitr
    · ipureintro; intro x hx; omega
    · iexact Hn
  iintro %_ HI
  unfold invGroups
  icases HI with ⟨Hg, %f, %hf, Hn⟩
  sl_exec (disch := exact View.amount_pos _ _ (show 0 < S16384.numel by decide))
  sl_step
  isplitl [Hmw]; · iexact Hmw
  isplitl [Hxback Hx']
  · iapply Hxback; iapply (Entails.of_eq (pts_x (F := F) d L k _)); iexact Hx'
  isplitl [Hoback Ho']
  · iapply Hoback
    rw [if_pos (Nat.lt_succ_self k.val)]
    iapply (Entails.of_eq (pts_o (F := F) d L k _))
    have hw : ∀ y : S16384.Idx, chunk_step.sl.dma0_1 (F := F) f y = bin (F := F) ((xChunk L k).view.read (Elt F) (flat m d) y) := by
      intro y
      have h := hf y (by
        have hy : (y 0).val < 16384 := (y 0).isLt
        have ht : 16 * Scf.trips k0_t2_loop.lb k0_t2_loop.ub k0_t2_loop.st = 16384 := by decide
        omega)
      rw [View.write_whole_univ] at h
      exact h
    iapply (Entails.of_eq (pointsTo_congr (chunk_value m d L k _ _ hw))); iexact Ho'
  isplitl [Hg]; · iexists _; iexact Hg
  isplitl [Hn]; · iexists _; iexact Hn
  isplitl [HsI]; · iexact HsI
  isplitl [HsO]; · iexact HsO
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-- What the subcore at `L` is handed, the result chunks at `o`: its eight chunks of the distances and of the result. -/
def share (o : Buf (Elt F) (oLoc d)) : sProp 𝕄 :=
  iprop((bigSep Finset.univ fun j => xPts d L j (flat m d)) ∗ bigSep Finset.univ fun j => oPts d L j o)

/-- What one subcore is handed can be kept in an invariant. -/
instance share_storable (o : Buf (Elt F) (oLoc d)) : BI.Storable (upEmb : UEmb _ 𝕄) (share m d L o) := by
  unfold share; infer_instance

set_option maxHeartbeats 4000000 in
/-- The subcore's program: from its share with the result chunks at any contents, to its share with the result chunks
    at the counts; its scratch memory back, its semaphores at zero, and no wait recorded but on its own copies. -/
theorem tile_body (hF : (K (F := F)).Facts) (o₀ : Buf (Elt F) (oLoc d)) (O : CellTallies nD τ sig (HIx 1)) (W : Waits sig (HIx 1))
    (hO : ∀ g, O g none = 0) :
    iprop(levAts (K (F := F)).L (K (F := F)).lev ∗ emp ∗ share m d L o₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body (F := F) L xV (Memref.isWhole_whole _) bV (Memref.isWhole_whole _) oV (Memref.isWhole_whole _)
            gV (Memref.isWhole_whole _) nV (Memref.isWhole_whole _) cc0_scratch2 cc0_scoped0)
          fun _ => iprop(share m d L (counts m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel share
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨Hg, Hn, Hbufs⟩, ⟨HsI, HsO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_for (invChunks m d L o₀ O W) $$ [Hmw Hx Ho Hg Hn HsI HsO HO]
  case region =>
    intro k _
    exact chunk_step m d L o₀ O W k
  · unfold invChunks
    isplitl [Hmw]; · iexact Hmw
    isplitl [Hx]; · iexact Hx
    isplitl [Ho]; · iexact Ho
    isplitl [Hg]; · iexact Hg
    isplitl [Hn]; · iexact Hn
    isplitl [HsI]; · iexact HsI
    isplitl [HsO]; · iexact HsO
    iexists W; isplitr
    · ipureintro; exact fun p hp => .inl hp
    · iexact HO
  have hlast : (bigSep Finset.univ fun j : Fin k0_t1_loop.trips => oPts d L j
      (if j.val < Scf.trips k0_t1_loop.lb k0_t1_loop.ub k0_t1_loop.st then counts m d else o₀))
      = bigSep Finset.univ fun j => oPts d L j (counts m d) :=
    bigSep_congr fun j _ => by rw [if_pos (show j.val < Scf.trips k0_t1_loop.lb k0_t1_loop.ub k0_t1_loop.st from j.isLt)]
  iintro %_ HI
  unfold invChunks
  icases HI with ⟨-, Hx, Ho, Hg, Hn, HsI, HsO, HO⟩
  sl_step
  isplitl [Hx Ho]
  · isplitl [Hx]; · iexact Hx
    rw [← hlast]; iexact Ho
  isplitl [Hg Hn Hbufs]
  · isplitl [Hg]; · iexact Hg
    isplitl [Hn]; · iexact Hn
    iexact Hbufs
  isplitl [HsI HsO Hsems]
  · isplitl [HsI]; · iexact HsI
    isplitl [HsO]; · iexact HsO
    iexact Hsems
  iexact HO

end Subcore

end Cert.Proof.KernelIdeal

end
-- ==== Proof.LaunchIdeal.lean ====
/-
  The whole program's run: the flattening, the one SparseCore call, the result put back into two axes.

  The call hands every subcore its eight chunks of the flattened distances and of the flat result, and takes them back
  with the result chunks at the counts (`TileIdeal.lean`, `tile_body`). The chunks of all subcores together are the
  whole arrays: chunk `k` of subcore `s` of SparseCore `c` starts at element `262144 s + 131072 c + 16384 k`. The theorem
  `run_main` says that every run ends, without a fault, with the two arguments as given, the result equal to `outcome`
  and every semaphore at zero. Everything here is for an arbitrary reading of floats.
-/
module

public import proofs.«01_k».proof.Proof.TileIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ
local notation "xV" => (Memref.whole Cert.KernelIdeal.main_v0_scv : Memref Cert.KernelIdeal.sig Kind.scVector Space.hbm Cert.KernelIdeal.S4194304 EltTy.f32)
local notation "bV" => (Memref.whole Cert.KernelIdeal.main_arg1_scv : Memref Cert.KernelIdeal.sig Kind.scVector Space.hbm Cert.KernelIdeal.S63 EltTy.f32)
local notation "oV" => (Memref.whole Cert.KernelIdeal.main_v1_scv : Memref Cert.KernelIdeal.sig Kind.scVector Space.hbm Cert.KernelIdeal.S4194304 EltTy.i32)
local notation "gV" => (Memref.whole Cert.KernelIdeal.cc0_scratch0 : Memref Cert.KernelIdeal.sig Kind.scVector Space.vmem Cert.KernelIdeal.S16384 EltTy.f32)
local notation "nV" => (Memref.whole Cert.KernelIdeal.cc0_scratch1 : Memref Cert.KernelIdeal.sig Kind.scVector Space.vmem Cert.KernelIdeal.S16384 EltTy.i32)

/-! ## The chunks are the arrays -/

/-- The grid point of subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The names of the chunks: SparseCore, subcore, chunk. -/
abbrev Names : Type := (Fin (grid0.bound 0) × Fin (grid0.bound 1)) × Fin k0_t1_loop.trips

/-- The elements of one chunk. -/
abbrev chunkSet (t : Names) : Finset S4194304.Idx := (chunkR (coordsV t.1.1 t.1.2) t.2).set

/-- The loop over chunks makes eight trips. -/
theorem trips_eq : k0_t1_loop.trips = 8 := by decide

/-- An element lies in a chunk when its number lies in the chunk's span of 16384. -/
theorem mem_chunkSet (t : Names) (x : S4194304.Idx) :
    x ∈ chunkSet t ↔ 262144 * t.1.2.val + 131072 * t.1.1.val + 16384 * t.2.val ≤ (x 0).val
      ∧ (x 0).val < 262144 * t.1.2.val + 131072 * t.1.1.val + 16384 * t.2.val + 16384 := by
  rw [chunkSet, Rect.mem_set_unit, k0_off1_eq]
  constructor
  · intro h; exact h 0
  · intro h a
    obtain rfl : a = 0 := Subsingleton.elim _ _
    exact h

/-- Distinct chunks share no element. -/
theorem chunks_disjoint : ∀ t ∈ (Finset.univ : Finset Names), ∀ t' ∈ (Finset.univ : Finset Names), t ≠ t' →
    Disjoint (chunkSet t) (chunkSet t') := by
  intro t _ t' _ hne
  refine Finset.disjoint_left.mpr fun x hx hx' => hne ?_
  obtain ⟨⟨c, s⟩, k⟩ := t
  obtain ⟨⟨c', s'⟩, k'⟩ := t'
  have h := (mem_chunkSet _ x).mp hx
  have h' := (mem_chunkSet _ x).mp hx'
  dsimp only at h h'
  have hc : c.val < 2 := c.isLt
  have hc' : c'.val < 2 := c'.isLt
  have hs : s.val < 16 := s.isLt
  have hs' : s'.val < 16 := s'.isLt
  have hk : k.val < 8 := lt_of_lt_of_eq k.isLt trips_eq
  have hk' : k'.val < 8 := lt_of_lt_of_eq k'.isLt trips_eq
  have e1 : c = c' := Fin.ext (by omega)
  have e2 : s = s' := Fin.ext (by omega)
  have e3 : k = k' := Fin.ext (by omega)
  rw [e1, e2, e3]

/-- Every element lies in some chunk. -/
theorem chunks_cover : (Finset.univ : Finset Names).biUnion chunkSet = Finset.univ := by
  refine Finset.eq_univ_iff_forall.mpr fun x => Finset.mem_biUnion.mpr ?_
  have hx : (x 0).val < 4194304 := (x 0).isLt
  refine ⟨((⟨(x 0).val / 131072 % 2, show _ < 2 by omega⟩, ⟨(x 0).val / 262144, show _ < 16 by omega⟩),
    ⟨(x 0).val / 16384 % 8, lt_of_lt_of_eq (show _ < 8 by omega) trips_eq.symm⟩), Finset.mem_univ _, (mem_chunkSet _ x).mpr ?_⟩
  dsimp only
  omega

/-- The whole flattened distances are their chunks. -/
theorem x_chunks (d : Dev nD) (f : Buf (Elt F) (xLoc d)) :
    (xLoc d ↦{fullShare} f : sProp 𝕄)
      = bigSep Finset.univ fun c => bigSep Finset.univ fun s => bigSep Finset.univ fun k => xPts d (coordsV c s) k f := by
  rw [show (xLoc d ↦{fullShare} f : sProp 𝕄) = bigSep Finset.univ fun t : Names => xLoc d ↦[chunkSet t]{fullShare} f from by
    rw [← pointsTo_biUnion Finset.univ (ℓ := xLoc d) chunkSet chunks_disjoint, chunks_cover], bigSep_univ_prod, bigSep_univ_prod]

/-- The whole flat result is its chunks. -/
theorem o_chunks (d : Dev nD) (f : Buf (Elt F) (oLoc d)) :
    (oLoc d ↦{fullShare} f : sProp 𝕄)
      = bigSep Finset.univ fun c => bigSep Finset.univ fun s => bigSep Finset.univ fun k => oPts d (coordsV c s) k f := by
  rw [show (oLoc d ↦{fullShare} f : sProp 𝕄) = bigSep Finset.univ fun t : Names => oLoc d ↦[chunkSet t]{fullShare} f from by
    rw [← pointsTo_biUnion Finset.univ (ℓ := oLoc d) chunkSet chunks_disjoint, chunks_cover], bigSep_univ_prod, bigSep_univ_prod]

variable (m : (ℓ : Loc nD τ sig) → Buf (Elt F) ℓ) (ρ : Dev nD → PrngReg)
variable [FloatOps F] [Named F]

/-- The two flat arrays whole are every subcore's share. -/
theorem shares_eq (d : Dev nD) (o : Buf (Elt F) (oLoc d)) :
    (bigSep Finset.univ fun c => bigSep Finset.univ fun s => share m d (coordsV c s) o)
      = iprop((xLoc d ↦{fullShare} flat m d) ∗ oLoc d ↦{fullShare} o) := by
  unfold share
  rw [x_chunks, o_chunks, ← bigSep_sep']
  exact bigSep_congr fun c _ => by rw [← bigSep_sep']

/-! ## The program as the launch sees it -/

abbrev D : Defs nD τ sig (Elt F) (ΛP (F := F)) := Pipeline.defs pcfgs defs₀
abbrev 𝒱 : Variants := 𝒱₀.lift
abbrev v₀ : 𝒱.V := Sum.inl none

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-- What the call carries: to each subcore its share with the result as it was, back its share with the result at the
    counts; to and from a SparseCore, its subcores' shares. -/
def P : (K (F := F)).Pay (nD := nD) (Val := Elt F) (Name := ℕ) (U := UU) where
  st := fun q d c => match q with | 0 => bigSep Finset.univ fun s : Fin (grid0.bound 1) => share m d (coordsV c s) (m (oLoc d))
  dn := fun q d c => match q with | 0 => bigSep Finset.univ fun s : Fin (grid0.bound 1) => share m d (coordsV c s) (counts m d)
  go := fun q d c s => match q with | 0 => share m d (coordsV c s) (m (oLoc d))
  td := fun q d c s => match q with | 0 => share m d (coordsV c s) (counts m d)
  x := fun _ _ => iprop(emp)

/-- What the subcores are handed can be kept in an invariant. -/
instance P_storable : (P (F := F) m).IsStorable where
  st q d c := match q with
    | 0 => (inferInstance : BI.Storable (upEmb : UEmb _ 𝕄) (bigSep Finset.univ fun s : Fin (grid0.bound 1) => share m d (coordsV c s) (m (oLoc d))))
  dn q d c := match q with
    | 0 => (inferInstance : BI.Storable (upEmb : UEmb _ 𝕄) (bigSep Finset.univ fun s : Fin (grid0.bound 1) => share m d (coordsV c s) (counts m d)))
  go q d c s := match q with
    | 0 => (inferInstance : BI.Storable (upEmb : UEmb _ 𝕄) (share m d (coordsV c s) (m (oLoc d))))
  td q d c s := match q with
    | 0 => (inferInstance : BI.Storable (upEmb : UEmb _ 𝕄) (share m d (coordsV c s) (counts m d)))

/-! ## Every subcore meets its obligation -/

/-- The program of a vector subcore. -/
theorem defs₀_vector (c : Fin τ.nSC) (s : Fin τ.nSub) :
    defs₀ (F := F) (.scVector c s) 0 ()
      = SparseCore.onTile hcore0 hsub0 (fun c s => cc0__sc_body (coordsV c s)
          xV (Memref.isWhole_whole _) bV (Memref.isWhole_whole _) oV (Memref.isWhole_whole _)
          gV (Memref.isWhole_whole _) nV (Memref.isWhole_whole _) cc0_scratch2 cc0_scoped0) ⟨⟩ c s := rfl

omit [FloatOps F] [Named F] in
/-- Waiting on nothing but its own copies is within what the launch allows a subcore. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's program turns its share into its share at the counts. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF (m (oLoc d)) O W hO).trans (wp_mono frame _ _ fun _ => obl_post)

/-- A SparseCore's part of the call is its subcores' parts. -/
theorem vecSplit : (K (F := F)).VecSplit' (P m) 0 := by
  intro d c
  show (bigSep Finset.univ fun s : Fin (grid0.bound 1) => share m d (coordsV c s) (m (oLoc d))) ⊢ |={Set.univ}=> iprop(
      (bigSep Finset.univ fun s : Fin (grid0.bound 1) => share m d (coordsV c s) (m (oLoc d)))
      ∗ ((bigSep Finset.univ fun s : Fin (grid0.bound 1) => share m d (coordsV c s) (counts m d))
          -∗ bigSep Finset.univ fun s : Fin (grid0.bound 1) => share m d (coordsV c s) (counts m d)))
  iintro H; imodintro
  isplitl [H]; · iexact H
  iintro H; iexact H

/-! ## The ghost state at the launch -/

/-- The ghost state at the start: the handshakes' part, and nothing for the kernel. -/
def u₀ : UU := (initOf (K (F := F)).hsCells (K (F := F)).hsToks, 1)

omit [FloatOps F] [Named F] in
theorem bigSep_emp' {I : Type} (s : Finset I) : (bigSep s fun _ => iprop(emp)) = (iprop(emp) : sProp 𝕄) := bigSep_emp_const s

/-- The ghost state at the start gives the handshakes' part. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The whole program on the TensorCore -/

abbrev d' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The flattening of the distances, and the flat result put back into two axes. -/
abbrev opIn : HloOp τ sig (Elt F) := StableHlo.reshape main_arg0 main_v0 (rfl : (.f32 : EltTy) = .f32) shapeCasts_S2048x2048_S4194304
/-- The reshaping of the counts to the shape of the result. -/
abbrev opOut : HloOp τ sig (Elt F) := StableHlo.reshape main_v1 main_v2 (rfl : (.i32 : EltTy) = .i32) shapeCasts_S4194304_S2048x2048

/-- The TensorCore's five arrays. -/
abbrev S5 : Finset (DevRef τ sig) := {d', b', x', o', r'}

omit [FloatOps F] [Named F] in
theorem held_S5 (d : Dev nD) (W : Valuation τ sig (Elt F)) :
    (held (T d) S5 W : sProp 𝕄) = iprop((dLoc d ↦{fullShare} W d') ∗ (bLoc d ↦{fullShare} W b') ∗ (xLoc d ↦{fullShare} W x')
      ∗ (oLoc d ↦{fullShare} W o') ∗ rLoc d ↦{fullShare} W r') := by
  unfold held S5
  rw [SparseCore.bigSep_insert' (by decide), SparseCore.bigSep_insert' (by decide), SparseCore.bigSep_insert' (by decide),
    SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄) = iprop((dLoc d ↦{fullShare} W main_arg0) ∗ (bLoc d ↦{fullShare} W main_arg1) ∗ (xLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The result: the counts in two axes. -/
def outcome (d : Dev nD) : Buf (Elt F) (rLoc d) := fun i => shapeCast S2048x2048 (counts m d) shapeCasts_S4194304_S2048x2048 i

/-- The arrays at the launch; after the flattening; after the call; and at the end. -/
def V0 (d : Dev nD) : Valuation τ sig (Elt F) := fun b => m (d, b)
/-- The arrays of a device after the kernel: the flattened distances and their counts filled in. -/
def V1 (d : Dev nD) : Valuation τ sig (Elt F) := Function.update (Function.update (V0 m d) x' (flat m d)) o' (counts m d)

omit [FloatOps F] [Named F] in
theorem unscoped_held (d : Dev nD) : (unscopedBufs d (fun b => m ((SparseCore.T d).loc b)) : sProp 𝕄) = held (T d) S5 (V0 m d) := by
  rw [unscopedBufs_eq, held_S5]; rfl

omit [FloatOps F] [Named F] in
theorem hIn : (opIn (F := F)).bufs ⊆ S5 := show ({d', x'} : Finset (DevRef τ sig)) ⊆ S5 by decide
omit [FloatOps F] [Named F] in
theorem hOut : (opOut (F := F)).bufs ⊆ S5 := show ({o', r'} : Finset (DevRef τ sig)) ⊆ S5 by decide

/-- After the flattening: the flat distances, everything else as it was. -/
theorem held_in (d : Dev nD) :
    (held (T d) S5 ((opIn (F := F)).result (V0 m d)) : sProp 𝕄)
      = iprop((dLoc d ↦{fullShare} m (dLoc d)) ∗ (bLoc d ↦{fullShare} m (bLoc d)) ∗ (xLoc d ↦{fullShare} flat m d)
        ∗ (oLoc d ↦{fullShare} m (oLoc d)) ∗ rLoc d ↦{fullShare} m (rLoc d)) := by
  rw [held_S5, StableHlo.reshape_result,
    (opIn (F := F)).result_of_not_mem (V0 m d) (b := d') (show d' ∉ ({x'} : Finset (DevRef τ sig)) by decide),
    (opIn (F := F)).result_of_not_mem (V0 m d) (b := b') (show b' ∉ ({x'} : Finset (DevRef τ sig)) by decide),
    (opIn (F := F)).result_of_not_mem (V0 m d) (b := o') (show o' ∉ ({x'} : Finset (DevRef τ sig)) by decide),
    (opIn (F := F)).result_of_not_mem (V0 m d) (b := r') (show r' ∉ ({x'} : Finset (DevRef τ sig)) by decide)]
  rfl

/-- Before the last step. -/
theorem held_V1 (d : Dev nD) :
    (held (T d) S5 (V1 m d) : sProp 𝕄)
      = iprop((dLoc d ↦{fullShare} m (dLoc d)) ∗ (bLoc d ↦{fullShare} m (bLoc d)) ∗ (xLoc d ↦{fullShare} flat m d)
        ∗ (oLoc d ↦{fullShare} counts m d) ∗ rLoc d ↦{fullShare} m (rLoc d)) := by
  have e1 : V1 m d d' = m (dLoc d) :=
    (Function.update_of_ne (show d' ≠ o' by decide) _ _).trans (Function.update_of_ne (show d' ≠ x' by decide) _ _)
  have e2 : V1 m d b' = m (bLoc d) :=
    (Function.update_of_ne (show b' ≠ o' by decide) _ _).trans (Function.update_of_ne (show b' ≠ x' by decide) _ _)
  have e3 : V1 m d x' = flat m d :=
    (Function.update_of_ne (show x' ≠ o' by decide) _ _).trans (Function.update_self _ _ _)
  have e4 : V1 m d o' = counts m d := Function.update_self _ _ _
  have e5 : V1 m d r' = m (rLoc d) :=
    (Function.update_of_ne (show r' ≠ o' by decide) _ _).trans (Function.update_of_ne (show r' ≠ x' by decide) _ _)
  rw [held_S5, e1, e2, e3, e4, e5]

/-- After the last step: the result is the counts in two axes. -/
theorem held_out (d : Dev nD) :
    (held (T d) S5 ((opOut (F := F)).result (V1 m d)) : sProp 𝕄)
      = iprop((dLoc d ↦{fullShare} m (dLoc d)) ∗ (bLoc d ↦{fullShare} m (bLoc d)) ∗ (xLoc d ↦{fullShare} flat m d)
        ∗ (oLoc d ↦{fullShare} counts m d) ∗ rLoc d ↦{fullShare} outcome m d) := by
  have e1 : V1 m d d' = m (dLoc d) :=
    (Function.update_of_ne (show d' ≠ o' by decide) _ _).trans (Function.update_of_ne (show d' ≠ x' by decide) _ _)
  have e2 : V1 m d b' = m (bLoc d) :=
    (Function.update_of_ne (show b' ≠ o' by decide) _ _).trans (Function.update_of_ne (show b' ≠ x' by decide) _ _)
  have e3 : V1 m d x' = flat m d :=
    (Function.update_of_ne (show x' ≠ o' by decide) _ _).trans (Function.update_self _ _ _)
  have e4 : V1 m d o' = counts m d := Function.update_self _ _ _
  rw [held_S5, StableHlo.reshape_result,
    (opOut (F := F)).result_of_not_mem (V1 m d) (b := d') (show d' ∉ ({r'} : Finset (DevRef τ sig)) by decide),
    (opOut (F := F)).result_of_not_mem (V1 m d) (b := b') (show b' ∉ ({r'} : Finset (DevRef τ sig)) by decide),
    (opOut (F := F)).result_of_not_mem (V1 m d) (b := x') (show x' ∉ ({r'} : Finset (DevRef τ sig)) by decide),
    (opOut (F := F)).result_of_not_mem (V1 m d) (b := o') (show o' ∉ ({r'} : Finset (DevRef τ sig)) by decide), e1, e2, e3, e4]
  rfl

/-- What the call takes is the two flat arrays, -/
theorem st0_eq (d : Dev nD) : (bigSep Finset.univ fun c : Fin ((K (F := F)).nCore 0) => (P m).st 0 d c)
    = iprop((xLoc d ↦{fullShare} flat m d) ∗ oLoc d ↦{fullShare} m (oLoc d)) := shares_eq m d (m (oLoc d))
/-- and what it hands back is the two flat arrays, the result at the counts. -/
theorem dn0_eq (d : Dev nD) : (bigSep Finset.univ fun c : Fin ((K (F := F)).nCore 0) => (P m).dn 0 d c)
    = iprop((xLoc d ↦{fullShare} flat m d) ∗ oLoc d ↦{fullShare} counts m d) := shares_eq m d (counts m d)

/-- What the program leaves: the arguments as given, the result at `outcome`. -/
abbrev FIN (d : Dev nD) : sProp 𝕄 :=
  iprop((dLoc d ↦{fullShare} m (dLoc d)) ∗ (bLoc d ↦{fullShare} m (bLoc d)) ∗ rLoc d ↦{fullShare} outcome m d)

/-- The program on a TensorCore: flatten, call, put back. -/
theorem hmain (names : GSem nD τ sig → ℕ) (d : Dev nD) :
    iprop((K (F := F)).ctx EH (P m) names ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb]; · iexact Hb
    iexact Hheld
  iintro ⟨Hb, Hheld⟩
  ihave Hh := (Entails.of_eq (held_in (F := F) m d)) $$ Hheld
  icases Hh with ⟨Hd, Hbr, Hx, Ho, Hr⟩
  rw [wp_ret]; imodintro
  iapply ((K (F := F)).wp_run (D (F := F)) 𝒱 (EH := EH) (P := P m) names d 0) $$ [Hst Hd Hbr Hx Ho Hr Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  iapply (wp_hlo_within 𝒱 (SparseCore.T d) none Set.univ (op := opOut) (S := S5) hOut (V := V1 m d)) $$ [Hb Hd Hbr Hx Ho Hr]
  · isplitl [Hb]; · iexact Hb
    rw [held_V1]
    isplitl [Hd]; · iexact Hd
    isplitl [Hbr]; · iexact Hbr
    isplitl [Hx]; · iexact Hx
    isplitl [Ho]; · iexact Ho
    iexact Hr
  iintro ⟨Hb, Hheld⟩
  ihave Hh := (Entails.of_eq (held_out (F := F) m d)) $$ Hheld
  icases Hh with ⟨Hd, Hbr, -, -, Hr⟩
  rw [wp_ret]; imodintro; imodintro
  isplitl [Hst]; · iexact Hst
  isplitr [Hb Hts]
  · isplitl [Hd]; · iexact Hd
    isplitl [Hbr]; · iexact Hbr
    iexact Hr
  isplitl [Hb] <;> iassumption

/-- What a final memory shows of one device. -/
def fq (d : Dev nD) (s' : Phys nD τ sig (Elt F)) : Prop :=
  s'.mem.mem (dLoc d) = m (dLoc d) ∧ s'.mem.mem (bLoc d) = m (bLoc d) ∧ s'.mem.mem (rLoc d) = outcome m d

set_option maxRecDepth 16384 in
/-- What is left at the end is what the memory holds. -/
theorem hfin (d : Dev nD) (s' : Phys nD τ sig (Elt F)) : iprop(FIN m d ∗ SI s') ⊢ (⌜fq m d s'⌝ : sProp 𝕄) := by
  iintro ⟨⟨Hd, Hb, Hr⟩, HSI⟩
  ihave H := (persistent_entails_right (SI_pointsTo_agree (st := s') (ℓ := dLoc d) (I := Finset.univ) (q := fullShare) (f := m (dLoc d)))) $$ [HSI Hd]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := rLoc d) (I := Finset.univ) (q := fullShare) (f := outcome m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- Every device's arguments as given and its result at `outcome`; every semaphore at zero. -/
def QC : PUnit × MemSt nD τ sig (Elt F) → Prop := fun r =>
  (∀ c : Dev nD, r.2.mem (dLoc c) = m (dLoc c) ∧ r.2.mem (bLoc c) = m (bLoc c) ∧ r.2.mem (rLoc c) = outcome m c) ∧ r.2.sem = fun _ => 0

/-- Every run of the program, from any memory with every semaphore at zero, ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.Bins.lean ====
/-
  The arithmetic of one distance, over the extended reals.

  The kernel takes 62 times the distance, cuts it to an integer and keeps it between 0 and 61, giving `j`; then it adds one
  for each of the edges `j / 62` and `(j + 1) / 62` that lies below the distance. `bin_eq` says that this is the number
  of the 63 edges `0, 1/62, …, 62/62` below the distance, for every extended real, the infinities included. The
  reason: an edge numbered less than `j` is below the distance, an edge numbered more than `j + 1` is not, so only the
  two edges the kernel compares are in question.
-/
module

public import proofs.«01_k».proof.Proof.TileIdeal
public import Idealize.ShloMosaic.PureOps.Ideal
public import Idealize.ShloMosaic.PureOps.Ideal.Laws
public import Idealize.ShloMosaic.PureOps.IdealRules

@[expose] public section

noncomputable section

namespace Cert.Proof.Bins

open Idealize.ShloMosaic Cert.Proof.KernelIdeal

/-! ## The edges, and how many lie below a value -/

/-- Edge number `i`: `i / 62`. -/
def mark (i : ℕ) : EReal := (((i : ℝ) * 62⁻¹ : ℝ) : EReal)

/-- How many of the 63 edges lie below `x`. -/
def below (x : EReal) : ℕ := by
  classical exact (Finset.univ.filter fun i : Fin 63 => mark i.val < x).card

/-- Edges grow with their number. -/
theorem mark_mono {i k : ℕ} (h : i ≤ k) : mark i ≤ mark k := by
  unfold mark
  have : (i : ℝ) ≤ (k : ℝ) := by exact_mod_cast h
  exact EReal.coe_le_coe_iff.mpr (by linarith)

/-- Edge `i` is below a real number exactly when `i` is below 62 times it. -/
theorem mark_real (i : ℕ) (r : ℝ) : mark i < (r : EReal) ↔ (i : ℝ) < r * 62 := by
  unfold mark
  rw [EReal.coe_lt_coe_iff]
  constructor <;> intro h <;> linarith

/-- If the edges below `x` are exactly the first `n`, there are `n` of them. -/
theorem below_of_initial (x : EReal) (n : ℕ) (hn : n ≤ 63) (h : ∀ i < 63, (mark i < x ↔ i < n)) : below x = n := by
  classical
  unfold below
  have e : (Finset.univ.filter fun i : Fin 63 => mark i.val < x) = Finset.univ.filter fun i : Fin 63 => i.val < n :=
    Finset.filter_congr fun i _ => h i.val i.isLt
  rw [show (Finset.univ.filter fun i : Fin 63 => mark i.val < x).card = (Finset.univ.filter fun i : Fin 63 => i.val < n).card from
    congrArg Finset.card e, Fin.card_filter_val_lt, min_eq_right hn]

/-- When all edges numbered less than `j` are below `x` and none numbered more than `j + 1` is, the number of edges
    below `x` is `j` and one for each of the edges `j` and `j + 1` that is below. -/
theorem below_eq (x : EReal) (j : ℕ) (hj : j ≤ 61) (hlo : ∀ i < j, mark i < x) (hhi : ∀ i ≤ 62, j + 1 < i → ¬ mark i < x)
    [Decidable (mark j < x)] [Decidable (mark (j + 1) < x)] :
    below x = j + (if mark j < x then 1 else 0) + (if mark (j + 1) < x then 1 else 0) := by
  by_cases hb : mark (j + 1) < x
  · have ha : mark j < x := lt_of_le_of_lt (mark_mono (Nat.le_succ j)) hb
    rw [if_pos ha, if_pos hb]
    refine below_of_initial x _ (by omega) fun i hi => ⟨fun h => ?_, fun h => ?_⟩
    · by_contra hc; exact hhi i (by omega) (by omega) h
    · exact lt_of_le_of_lt (mark_mono (by omega)) hb
  · rw [if_neg hb]
    by_cases ha : mark j < x
    · rw [if_pos ha]
      refine below_of_initial x _ (by omega) fun i hi => ⟨fun h => ?_, fun h => ?_⟩
      · by_contra hc; exact hb (lt_of_le_of_lt (mark_mono (by omega)) h)
      · exact lt_of_le_of_lt (mark_mono (by omega)) ha
    · rw [if_neg ha]
      refine below_of_initial x _ (by omega) fun i hi => ⟨fun h => ?_, fun h => ?_⟩
      · by_contra hc; exact ha (lt_of_le_of_lt (mark_mono (by omega)) h)
      · exact hlo i (by omega)

/-! ## The kernel's words -/

/-- The number the kernel multiplies by is 62. -/
theorem ofBits_62 : Ideal.ofBits .f32 0x42780000#32 = ((62 : ℝ) : EReal) := by
  simp [Ideal.ofBits, Ideal.ieee, -EReal.coe_mul]; norm_num

/-- The named step is 1/62. -/
theorem step_eq : Named.named (F := Ideal) Cert.KernelIdeal.κ "step" (φ := .f32) 0x3C842108#32 = ((62⁻¹ : ℝ) : EReal) :=
  IdealRules.named_const.ideal_named_scalar _ _ _ _ rfl

/-- Keeping a 32-bit integer between 0 and 61. -/
theorem clamp_word (t : ℤ) (h1 : -(2 ^ 31) ≤ t) (h2 : t ≤ 2 ^ 31 - 1) :
    IntOp.minsi (IntOp.maxsi (BitVec.ofInt 32 t) 0#32) 61#32 = BitVec.ofNat 32 (max 0 (min t 61)).toNat := by
  have ht : (BitVec.ofInt 32 t).toInt = t := by
    rw [BitVec.toInt_ofInt]; exact Int.bmod_eq_of_le (by norm_num; omega) (by norm_num; omega)
  have h0 : (0#32 : BitVec 32).toInt = 0 := by decide
  have h61 : (61#32 : BitVec 32).toInt = 61 := by decide
  have key : ∀ b : BitVec 32, ∀ n : ℕ, n ≤ 61 → b.toInt = n → b = BitVec.ofNat 32 n := by
    intro b n hn hb
    apply BitVec.eq_of_toInt_eq
    rw [hb, BitVec.toInt_ofNat']
    exact (Int.bmod_eq_of_le (by norm_num) (by norm_num; omega)).symm
  apply key
  · omega
  · unfold IntOp.minsi IntOp.maxsi
    simp only [BitVec.slt_eq_decide, decide_eq_true_eq, ht, h0, h61]
    split_ifs <;> simp_all <;> omega

/-- A small word read as an integer. -/
theorem toInt_small (n : ℕ) (h : n ≤ 63) : (BitVec.ofNat 32 n).toInt = (n : ℤ) := by
  rw [BitVec.toInt_ofNat']
  exact Int.bmod_eq_of_le (by norm_num) (by norm_num; omega)

/-- The kernel's edge `n` is `n / 62`. -/
theorem edge_eq (n : ℕ) (h : n ≤ 63) : edge (F := Ideal) (BitVec.ofNat 32 n) = mark n := by
  unfold edge
  rw [step_eq]
  show (((BitVec.ofNat 32 n).toInt : ℝ) : EReal) * ((62⁻¹ : ℝ) : EReal) = mark n
  rw [toInt_small n h, ← EReal.coe_mul]
  rfl

/-- The bin estimate as a number between 0 and 61: every edge numbered less is below the distance, and no edge numbered
    more than one above it is. -/
theorem est_spec (x : EReal) : ∃ j : ℕ, j ≤ 61 ∧ est (F := Ideal) x = BitVec.ofNat 32 j
    ∧ (∀ i < j, mark i < x) ∧ ∀ i ≤ 62, j + 1 < i → ¬ mark i < x := by
  have hest : ∀ t : ℤ, Ideal.toIntClamped (-(2 ^ 31)) (2 ^ 31 - 1) (x * ((62 : ℝ) : EReal)) = t → -(2 ^ 31) ≤ t → t ≤ 2 ^ 31 - 1 →
      est (F := Ideal) x = BitVec.ofNat 32 (max 0 (min t 61)).toNat := by
    intro t ht h1 h2
    rw [← clamp_word t h1 h2, ← ht, ← ofBits_62]
    rfl
  induction x using EReal.rec with
  | bot =>
    refine ⟨0, by omega, ?_, fun i hi => absurd hi (by omega), fun i _ _ => not_lt_bot⟩
    rw [hest (-(2 ^ 31)) (by rw [EReal.bot_mul_coe_of_pos (by norm_num)]; rfl) (by norm_num) (by norm_num)]
    rfl
  | top =>
    refine ⟨61, le_refl _, ?_, fun i _ => EReal.coe_lt_top _, fun i h1 h2 => absurd h2 (by omega)⟩
    rw [hest (2 ^ 31 - 1) (by rw [EReal.top_mul_coe_of_pos (by norm_num)]; rfl) (by norm_num) (by norm_num)]
    rfl
  | coe r =>
    have hc : Ideal.toIntClamped (-(2 ^ 31)) (2 ^ 31 - 1) ((r : EReal) * ((62 : ℝ) : EReal))
        = max (-(2 ^ 31)) (min (2 ^ 31 - 1) (if 0 ≤ r * 62 then ⌊r * 62⌋ else ⌈r * 62⌉)) := by
      rw [← EReal.coe_mul, Ideal.toIntClamped_coe]
    rw [hest _ hc (by omega) (by omega)]
    refine ⟨_, ?_, rfl, ?_, ?_⟩
    · omega
    · intro i hi
      rw [mark_real]
      by_cases h0 : 0 ≤ r * 62
      · rw [if_pos h0] at hi
        have h1 : ((i : ℤ) + 1) ≤ ⌊r * 62⌋ := by omega
        have h2 := Int.le_floor.mp h1
        push_cast at h2
        linarith
      · rw [if_neg h0] at hi
        have h1 : ⌈r * 62⌉ ≤ 0 := Int.ceil_le.mpr (by push_cast; linarith)
        omega
    · intro i h62 hi
      rw [mark_real, not_lt]
      by_cases h0 : 0 ≤ r * 62
      · rw [if_pos h0] at hi
        have h1 : ⌊r * 62⌋ < (i : ℤ) := by omega
        have h2 := Int.floor_lt.mp h1
        push_cast at h2
        linarith
      · have : (0 : ℝ) ≤ i := Nat.cast_nonneg i
        linarith

/-- A comparison that adds one: the word of 1 when `y` is below `x`, the word of 0 when it is not. -/
theorem hit_eq (x y : EReal) [Decidable (y < x)] :
    Scalar.select (FloatOps.cmpf (F := Ideal) (φ := .f32) .ogt x y) 1#32 0#32 = BitVec.ofNat 32 (if y < x then 1 else 0) := by
  rw [Ideal.cmpf_def]
  unfold Ideal.cmp Scalar.select
  by_cases h : y < x <;> simp [h]

/-- The kernel's count of one distance is the number of edges below it. -/
theorem bin_eq (x : EReal) : bin (F := Ideal) x = BitVec.ofNat 32 (below x) := by
  classical
  obtain ⟨j, hj, he, hlo, hhi⟩ := est_spec x
  unfold bin
  rw [he, show IntOp.addi (BitVec.ofNat 32 j) 1#32 = BitVec.ofNat 32 (j + 1) from (BitVec.ofNat_add j 1).symm,
    edge_eq j (by omega), edge_eq (j + 1) (by omega), hit_eq, hit_eq, below_eq x j hj hlo hhi, BitVec.ofNat_add, BitVec.ofNat_add]
  rfl

end Cert.Proof.Bins

end
-- ==== Proof.Breaks.lean ====
/-
  The breaks the precondition allows, over the extended reals.

  The precondition says that the breaks are what the host library's evenly spaced points from 0 to 1 compute, 63 of them: point `i` for
  `i` up to 61 is `0 * (1 - i / 62) + 1 * (i / 62)`, and the last is 1. Over the extended reals that is `i / 62` at every `i`
  (`breaks_eq`).
-/
module

public import proofs.«01_k».proof.Proof.Bins
public import proofs.«01_k».proof.Proof.Gen.Pre_linspace_breaks
public import Idealize.ShloMosaic.Lib.ReduceAll
public import Idealize.ShloMosaic.Lib.Pointwise

@[expose] public section

noncomputable section

namespace Cert.Proof.Breaks

open Idealize.ShloMosaic Cert.Pre_linspace_breaks Cert.Pre_linspace_breaks.Gen Cert.Proof.Bins

/-- The word of 0 denotes 0. -/
theorem ofBits_zero : Ideal.ofBits .f32 0x00000000#32 = 0 := by
  simp [Ideal.ofBits, Ideal.ieee]
/-- The word of 1 denotes 1. -/
theorem ofBits_one : Ideal.ofBits .f32 0x3F800000#32 = 1 := by
  simp [Ideal.ofBits, Ideal.ieee, -EReal.coe_mul]; norm_num

/-- A break before the last. -/
theorem point_eq (n : ℕ) (h : n < 62) :
    (0 : EReal) * (1 - Ideal.div (((BitVec.ofNat 32 n).toInt : ℝ) : EReal) ((62 : ℝ) : EReal))
      + 1 * Ideal.div (((BitVec.ofNat 32 n).toInt : ℝ) : EReal) ((62 : ℝ) : EReal) = mark n := by
  rw [toInt_small n (by omega), Ideal.div_coe (by norm_num : (62 : ℝ) ≠ 0), zero_mul, zero_add, one_mul, ← EReal.coe_mul]
  unfold mark
  norm_num

/-- The last break. -/
theorem last_eq : (1 : EReal) = mark 62 := by
  unfold mark
  norm_num

/-- The evenly spaced points at every index. -/
theorem linspace_eq (i : S63.Idx) :
    fn_linspace (F := Ideal) (constant S_ .f32 0x00000000#32) (constant S_ .f32 0x3F800000#32) i = mark (i 0).val := by
  unfold fn_linspace
  pointwise
  have hi : (i 0).val < 63 := (i 0).isLt
  split
  next h =>
    refine Eq.trans ?_ (point_eq (i 0).val h)
    rw [← ofBits_zero, ← ofBits_one, ← ofBits_62]
    rfl
  next h =>
    rw [show (i 0).val = 62 by omega, ← last_eq]
    exact ofBits_one

/-- Breaks that meet the precondition are `i / 62` at every `i`. -/
theorem breaks_eq (x : FVec Ideal S2048x2048 .f32) (b : FVec Ideal S63 .f32) (h : fn (F := Ideal) x b = fun _ => 1#1)
    (i : S63.Idx) : b i = mark (i 0).val := by
  have h0 := congrFun h (Shape.Idx.first h_S_)
  dsimp only [fn] at h0
  have : Subsingleton S_.Idx := ⟨fun a c => funext fun k => k.elim0⟩
  have h1 := Host.reduce_andi_all _ _ _ _ _ h0 i
  rw [← linspace_eq i]
  have h2 : Ideal.cmp .oeq (b i) (fn_linspace (F := Ideal) (constant S_ .f32 0x00000000#32) (constant S_ .f32 0x3F800000#32) i) = 1#1 := h1
  unfold Ideal.cmp at h2
  by_contra hne
  simp [hne] at h2

end Cert.Proof.Breaks

end
-- ==== Proof.Reference.lean ====
/-
  What the reference computes, over the extended reals.

  For each distance the reference compares it with each of the 63 breaks and adds up the comparisons. With the breaks at
  `i / 62` the sum is the number of edges below the distance (`sum_eq`), which is the kernel's count.
-/
module

public import proofs.«01_k».proof.Proof.Bins
public import proofs.«01_k».proof.Proof.Gen.ReferenceIdeal
public import Idealize.ShloMosaic.PureOps.Reduce

@[expose] public section

noncomputable section

namespace Cert.Proof.Reference

open Idealize.ShloMosaic Cert.ReferenceIdeal Cert.ReferenceIdeal.Gen Cert.Proof.Bins

/-- Adding up ones and zeros, as 32-bit words, counts the ones. -/
theorem fold_count {ι : Type} [DecidableEq ι] (s : Finset ι) (p : ι → Prop) [DecidablePred p] (f : ι → BitVec 32)
    (hf : ∀ i, f i = BitVec.ofNat 32 (if p i then 1 else 0)) :
    s.fold IntOp.addi 0#32 f = BitVec.ofNat 32 (s.filter p).card := by
  induction s using Finset.induction_on with
  | empty => rfl
  | insert a s ha ih =>
    rw [Finset.fold_insert ha, ih, hf a, Finset.filter_insert]
    by_cases h : p a
    · rw [if_pos h, if_pos h, Finset.card_insert_of_notMem fun hm => ha (Finset.mem_filter.mp hm).1, Nat.add_comm, BitVec.ofNat_add]
      rfl
    · rw [if_neg h, if_neg h]
      exact BitVec.zero_add _

/-- One comparison, widened to a word. -/
theorem wide_eq (x y : EReal) [Decidable (y < x)] :
    (FloatOps.cmpf (F := Ideal) (φ := .f32) .ogt x y).setWidth 32 = BitVec.ofNat 32 (if y < x then 1 else 0) := by
  rw [Ideal.cmpf_def]
  unfold Ideal.cmp
  by_cases h : y < x <;> simp [h]

/-- Dropping the third axis of the comparisons leaves the shape of the result. -/
theorem dropped : S2048x2048x63.Reduces [2] S2048x2048 := by decide

/-- The distances repeated along the third axis. -/
abbrev distAt (x : FVec Ideal S2048x2048 .f32) : FVec Ideal S2048x2048x63 .f32 :=
  broadcastInDim S2048x2048x63 ![0, 1, 2] bcast_S2048x2048x1_S2048x2048x63_0_1_2
    (broadcastInDim S2048x2048x1 ![0, 1] bcast_S2048x2048_S2048x2048x1_0_1 x)
/-- The breaks repeated along the first two axes. -/
abbrev breakAt (b : FVec Ideal S63 .f32) : FVec Ideal S2048x2048x63 .f32 :=
  broadcastInDim S2048x2048x63 ![0, 1, 2] bcast_S1x1x63_S2048x2048x63_0_1_2
    (broadcastInDim S1x1x63 ![2] bcast_S63_S1x1x63_2 b)

/-- At `(j, k)` the repeated distances are distance `j`. -/
theorem distAt_lift (x : FVec Ideal S2048x2048 .f32) (j : S2048x2048.Idx) (k : Fin 63) :
    distAt x (dropped.lift j k) = x j := by
  refine congrArg x (funext fun a => Fin.ext ?_)
  match a with
  | ⟨0, _⟩ => rfl
  | ⟨1, _⟩ => rfl

/-- The position of break `k`. -/
def entry (k : Fin 63) : S63.Idx := fun a => match a with
  | ⟨0, _⟩ => k

/-- At `(j, k)` the repeated breaks are break `k`. -/
theorem breakAt_lift (b : FVec Ideal S63 .f32) (j : S2048x2048.Idx) (k : Fin 63) :
    breakAt b (dropped.lift j k) = b (entry k) := by
  refine congrArg b (funext fun a => Fin.ext ?_)
  match a with
  | ⟨0, _⟩ => rfl

/-- With the breaks at `i / 62`, the reference's sum at an element is the number of edges below that distance. -/
theorem sum_eq (x : FVec Ideal S2048x2048 .f32) (b : FVec Ideal S63 .f32) (hb : ∀ i : S63.Idx, b i = mark (i 0).val)
    (j : S2048x2048.Idx) :
    Host.reduce IntOp.addi (extui 32 (cmpf .ogt (distAt x) (breakAt b)) natLt_1_32) (constantI S_ 32 0#32)
      reducesTo_S2048x2048x63_S2048x2048_d2 h_S_ j = BitVec.ofNat 32 (below (x j)) := by
  classical
  rw [Host.reduce_eq_fold_single IntOp.addi _ _ _ dropped]
  refine (fold_count (ι := Fin 63) Finset.univ (fun k => mark k.val < x j) _ fun k => ?_).trans ?_
  · show (FloatOps.cmpf (F := Ideal) (φ := .f32) .ogt (distAt x (dropped.lift j k)) (breakAt b (dropped.lift j k))).setWidth 32 = _
    rw [distAt_lift, breakAt_lift, hb, wide_eq]
    rfl
  · unfold below
    congr 2

end Cert.Proof.Reference

end
-- ==== Proof.lean ====
/-
  The certificate of the binning kernel. The kernel's run is Proof/Launch.lean (as printed) and Proof/LaunchIdeal.lean (over
  the extended reals), each over one subcore's share in Proof/Tile.lean and Proof/TileIdeal.lean. Proof/Bins.lean is the
  arithmetic of one element, Proof/Breaks.lean what the precondition says of the breaks, Proof/Reference.lean the
  reference's value. This module puts them together.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_linspace_breaks
public import proofs.«01_k».proof.Proof.Launch
public import proofs.«01_k».proof.Proof.LaunchIdeal
public import proofs.«01_k».proof.Proof.Bins
public import proofs.«01_k».proof.Proof.Breaks
public import proofs.«01_k».proof.Proof.Reference
public import Idealize.ShloMosaic.Lib.Quiescent
public import Idealize.ShloMosaic.Lib.Pipeline.Value

@[expose] public section

noncomputable section

namespace Cert.Proof

open Idealize.ShloMosaic Idealize.SL.Sem

/-- The kernel as printed runs to completion, leaves its arguments unchanged and every semaphore at zero. -/
theorem frame_kernel : Cert.quiescent_Kernel :=
  fun m g _ => (θ_run _ _ _).mono (fun _ h => ⟨fun c => ⟨(h.1 c).1, (h.1 c).2.1⟩, h.2⟩) (Kernel.run_main (F := Bits) m g)

/-- So does the kernel over the extended reals. -/
theorem frame_ideal : Cert.quiescent_KernelIdeal :=
  fun m g _ => (θ_run _ _ _).mono (fun _ h => ⟨fun c => ⟨(h.1 c).1, (h.1 c).2.1⟩, h.2⟩) (KernelIdeal.run_main (F := Ideal) m g)

/-- So does the reference over the extended reals. -/
theorem frame_reference : Cert.quiescent_ReferenceIdeal :=
  fun m g _ => (θ_run Cert.ReferenceIdeal.defs _ _).mono
    (fun r h => ⟨fun c => (h c).2, sem_eq_zero_of_no_sems (by decide) r.2⟩) (Cert.ReferenceIdeal.Value.run (F := Ideal) m g)

/-- The one constant given a name stands for exactly `1 / 62` over the extended reals. -/
theorem preserved : Cert.preserves_Kernel_KernelIdeal :=
  IdealRules.named_const.statement Cert.KernelIdeal.κ "step" .f32 0x3C842108#32 ((62⁻¹ : ℝ) : EReal) rfl

/-- Each count the kernel leaves is the number of edges `i / 62` below the distance at that place. -/
theorem outcome_eq (m : (ℓ : Loc Cert.KernelIdeal.nD Cert.KernelIdeal.τ Cert.KernelIdeal.sig) → Buf (Elt Ideal) ℓ)
    (c : Dev Cert.KernelIdeal.nD) (j : Cert.KernelIdeal.S2048x2048.Idx) :
    KernelIdeal.outcome m c j = BitVec.ofNat 32 (Bins.below (m (KernelIdeal.dLoc c) j)) :=
  (congrArg (KernelIdeal.bin (F := Ideal)) (congrFun (shapeCast_shapeCast (s := Cert.KernelIdeal.S2048x2048)
    (t := Cert.KernelIdeal.S4194304) (m (KernelIdeal.dLoc c)) Cert.KernelIdeal.Gen.shapeCasts_S2048x2048_S4194304
    Cert.KernelIdeal.Gen.shapeCasts_S4194304_S2048x2048) j)).trans (Bins.bin_eq _)

/-- With the breaks at `i / 62`, the kernel and the reference end with the same counts. -/
theorem equal : Cert.algebraic_KernelIdeal_ReferenceIdeal_pre_linspace_breaks := by
  intro m g m' g' hpre hagree
  refine ⟨fun c => KernelIdeal.outcome m c, ?_, ?_⟩
  · exact (θ_run _ _ _).mono (fun _ h c => ⟨(h.1 c).2.2, (h.1 c).1, (h.1 c).2.1⟩) (KernelIdeal.run_main (F := Ideal) m g)
  · refine (θ_run Cert.ReferenceIdeal.defs _ _).mono (fun r h c => ⟨(h c).1.trans ?_, (h c).2⟩)
      (Cert.ReferenceIdeal.Value.run (F := Ideal) m' g')
    rw [(hagree c).1, (hagree c).2]
    funext j
    exact (Reference.sum_eq _ _ (Breaks.breaks_eq _ _ (hpre c)) j).trans (outcome_eq m c j).symm

/-- All the claims. -/
theorem claim : Cert.Claim :=
  ⟨Cert.Kernel.Gen.facts, Cert.KernelIdeal.Gen.facts, Cert.ReferenceIdeal.Gen.facts, Cert.Pre_linspace_breaks.Gen.facts,
    frame_kernel, frame_ideal, fun m g _ => frame_ideal m g trivial, frame_reference,
    fun m g _ => frame_reference m g trivial, preserved, equal⟩

end Cert.Proof

end
